-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x3584 : Shape := ⟨3, ![2, 128, 3584]⟩
abbrev S67895296 : Shape := ⟨1, ![67895296]⟩
abbrev S33152 : Shape := ⟨1, ![33152]⟩
abbrev S3584x37x4x128 : Shape := ⟨4, ![3584, 37, 4, 128]⟩
abbrev S33152x4 : Shape := ⟨2, ![33152, 4]⟩
abbrev S132608 : Shape := ⟨1, ![132608]⟩
abbrev S3584x37 : Shape := ⟨2, ![3584, 37]⟩
abbrev S_ : Shape := ⟨0, ![]⟩
abbrev S3584x128 : Shape := ⟨2, ![3584, 128]⟩
abbrev S256x3584 : Shape := ⟨2, ![256, 3584]⟩
abbrev S256x18944 : Shape := ⟨2, ![256, 18944]⟩
abbrev S3584x1x4x128 : Shape := ⟨4, ![3584, 1, 4, 128]⟩
abbrev S256x512 : Shape := ⟨2, ![256, 512]⟩
abbrev S16x128 : Shape := ⟨2, ![16, 128]⟩
abbrev S32x1x4x128 : Shape := ⟨4, ![32, 1, 4, 128]⟩
abbrev S128x128 : Shape := ⟨2, ![128, 128]⟩
abbrev S32x128 : Shape := ⟨2, ![32, 128]⟩
abbrev S8x4x128 : Shape := ⟨3, ![8, 4, 128]⟩
abbrev S8x1x128 : Shape := ⟨3, ![8, 1, 128]⟩
abbrev S8x128 : Shape := ⟨2, ![8, 128]⟩
abbrev S16x128x1 : Shape := ⟨3, ![16, 128, 1]⟩
abbrev S256x128 : Shape := ⟨2, ![256, 128]⟩
abbrev S256x256 : Shape := ⟨2, ![256, 256]⟩

abbrev nBuf : Space → Nat
  | .hbm => 13
  | .vmem => 6
  | .smem => 0
  | _ => 0

abbrev bufTy : (tb : Table) → Fin (tcTables nBuf tb) → BufTy
  | .hbm, ⟨0, _⟩ => ⟨S2x128x3584, .bf16⟩
  | .hbm, ⟨1, _⟩ => ⟨S67895296, .i8⟩
  | .hbm, ⟨2, _⟩ => ⟨S33152, .f32⟩
  | .hbm, ⟨3, _⟩ => ⟨S3584x37x4x128, .i8⟩
  | .hbm, ⟨4, _⟩ => ⟨S33152, .bf16⟩
  | .hbm, ⟨5, _⟩ => ⟨S33152x4, .bf16⟩
  | .hbm, ⟨6, _⟩ => ⟨S132608, .bf16⟩
  | .hbm, ⟨7, _⟩ => ⟨S3584x37, .bf16⟩
  | .hbm, ⟨8, _⟩ => ⟨S_, .i32⟩
  | .hbm, ⟨9, _⟩ => ⟨S_, .bf16⟩
  | .hbm, ⟨10, _⟩ => ⟨S3584x128, .bf16⟩
  | .hbm, ⟨11, _⟩ => ⟨S256x3584, .bf16⟩
  | .hbm, ⟨12, _⟩ => ⟨S256x18944, .bf16⟩
  | .local _ .vmem, ⟨0, _⟩ => ⟨S256x3584, .bf16⟩
  | .local _ .vmem, ⟨1, _⟩ => ⟨S3584x1x4x128, .i8⟩
  | .local _ .vmem, ⟨2, _⟩ => ⟨S3584x1x4x128, .i8⟩
  | .local _ .vmem, ⟨3, _⟩ => ⟨S3584x128, .bf16⟩
  | .local _ .vmem, ⟨4, _⟩ => ⟨S256x512, .bf16⟩
  | .local _ .vmem, ⟨5, _⟩ => ⟨S256x512, .bf16⟩
  | _, _ => ⟨S2x128x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![37], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3584x1x4x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3584x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S2x128x3584 : Shape := ⟨3, ![2, 128, 3584]⟩
abbrev S67895296 : Shape := ⟨1, ![67895296]⟩
abbrev S33152 : Shape := ⟨1, ![33152]⟩
abbrev S33152x4 : Shape := ⟨2, ![33152, 4]⟩
abbrev S132608 : Shape := ⟨1, ![132608]⟩
abbrev S3584x37 : Shape := ⟨2, ![3584, 37]⟩
abbrev S256x3584 : Shape := ⟨2, ![256, 3584]⟩
abbrev S3584x37x512 : Shape := ⟨3, ![3584, 37, 512]⟩
abbrev S256x18944 : Shape := ⟨2, ![256, 18944]⟩
abbrev S3584x37x1 : Shape := ⟨3, ![3584, 37, 1]⟩
abbrev S3584x18944 : Shape := ⟨2, ![3584, 18944]⟩

abbrev nBuf : Space → Nat
  | .hbm => 10
  | .vmem => 4
  | .smem => 0
  | _ => 0

abbrev bufTy : (tb : Table) → Fin (tcTables nBuf tb) → BufTy
  | .hbm, ⟨0, _⟩ => ⟨S2x128x3584, .bf16⟩
  | .hbm, ⟨1, _⟩ => ⟨S67895296, .i8⟩
  | .hbm, ⟨2, _⟩ => ⟨S33152, .f32⟩
  | .hbm, ⟨3, _⟩ => ⟨S33152, .bf16⟩
  | .hbm, ⟨4, _⟩ => ⟨S33152x4, .bf16⟩
  | .hbm, ⟨5, _⟩ => ⟨S132608, .bf16⟩
  | .hbm, ⟨6, _⟩ => ⟨S3584x37, .bf16⟩
  | .hbm, ⟨7, _⟩ => ⟨S256x3584, .bf16⟩
  | .hbm, ⟨8, _⟩ => ⟨S3584x37x512, .i8⟩
  | .hbm, ⟨9, _⟩ => ⟨S256x18944, .bf16⟩
  | .local _ .vmem, ⟨0, _⟩ => ⟨S256x3584, .bf16⟩
  | .local _ .vmem, ⟨1, _⟩ => ⟨S3584x37x512, .i8⟩
  | .local _ .vmem, ⟨2, _⟩ => ⟨S3584x37, .bf16⟩
  | .local _ .vmem, ⟨3, _⟩ => ⟨S256x18944, .bf16⟩
  | _, _ => ⟨S2x128x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S256x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3584x37x512 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x37 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x18944 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Product.lean ====
/-
  THE PRODUCT BOTH PROGRAMS COMPUTE at the extended reals, as a function of `x`, the flat codes and the scale of each row and
  chunk: element `[r, c]` is the sum over the weight rows `k` of `x[r, k]` times the code at `18944 k + c` times the scale of row
  `k` in chunk `c / 512`.
-/
module

public import Idealize.ShloMosaic.Lib.ValueIdx
public import Idealize.ShloMosaic.Lib.Pipeline.Value
public import Idealize.ShloMosaic.PureOps.Ideal.Laws

@[expose] public section

noncomputable section

namespace Cert.Proof

open Idealize.ShloMosaic
open Idealize.ShloMosaic.ValueIdx
open scoped BigOperators

/-- The position of weight row `k`, column `c` among the flat codes. -/
def flat (k : Fin 3584) (c : Fin 18944) : Fin 67895296 := ⟨18944 * k.val + c.val, by omega⟩

/-- The chunk of 512 columns that column `c` lies in. -/
def chunk (c : Fin 18944) : Fin 37 := ⟨c.val / 512, by omega⟩

/-- Term `k` of element `[r, c]`: `x[r, k]` times the code of weight row `k`, column `c`, times that row's scale in `c`'s chunk. -/
def productTerm (x : FVec Ideal ⟨2, ![256, 3584]⟩ .bf16) (codes : IVec ⟨1, ![67895296]⟩ 8) (s : FVec Ideal ⟨2, ![3584, 37]⟩ .bf16)
    (r : Fin 256) (c : Fin 18944) (k : Fin 3584) : EReal :=
  (x (ix2 r k) : EReal) * ((FloatOps.sitofp (F := Ideal) .bf16 (codes (ix1 (flat k c))) : EReal) * (s (ix2 k (chunk c)) : EReal))

/-- The product: `x` times the weights, each weight its code times its scale. -/
def product (x : FVec Ideal ⟨2, ![256, 3584]⟩ .bf16) (codes : IVec ⟨1, ![67895296]⟩ 8) (s : FVec Ideal ⟨2, ![3584, 37]⟩ .bf16) :
    FVec Ideal ⟨2, ![256, 18944]⟩ .bf16 :=
  fun i => ∑ k : Fin 3584, productTerm x codes s (i 0) (i 1) k

/-- The same at `[r, c]`. -/
theorem product_apply (x : FVec Ideal ⟨2, ![256, 3584]⟩ .bf16) (codes : IVec ⟨1, ![67895296]⟩ 8) (s : FVec Ideal ⟨2, ![3584, 37]⟩ .bf16)
    (r : Fin 256) (c : Fin 18944) : product x codes s (ix2 r c) = ∑ k : Fin 3584, productTerm x codes s r c k := rfl

end Cert.Proof
-- ==== Proof.Group.lean ====
/-
  WHAT ONE GRID POINT OF THE KERNEL COMPUTES, written once: the kernel's text spells 14 tiles of 8 groups of 32 rows out one
  after the other; here one group, one tile and the sum over the tiles are each a definition over the first row `k` they read.
-/
module

public import proofs.«01_k».proof.KernelIdeal
public import Idealize.ShloMosaic.Lib.Pipeline.ValueKit
public import Idealize.ShloMosaic.Lib.Pipeline.FrameBody

@[expose] public section

noncomputable section

namespace Cert.Proof

open Idealize.ShloMosaic Cert.KernelIdeal Cert.KernelIdeal.Facts₀ Cert.KernelIdeal.Facts

variable {F : FTy → Type} [FloatOps F] [Cert.KernelIdeal.Facts]

/-! ## One group of 32 rows: the codes -/

/-- The 32 code rows of a group viewed as words: word `[s, b, l]` packs the four byte rows of code row `4 s + b` at lane `l`. -/
def words (codes : Vec F S32x1x4x128 .i8) : IVec S8x4x128 32 :=
  shapeCast S8x4x128 (bitcast S32x128 32 (shapeCast S128x128 (shapeCast S32x1x4x128 (codes : IVec S32x1x4x128 8) shapeCasts_S32x1x4x128_S32x1x4x128)
    shapeCasts_S32x1x4x128_S128x128) bitcasts_S128x128_w8_S32x128_w32) shapeCasts_S32x128_S8x4x128

/-- The words of the code rows `4 s`, one per row `s` of the result. -/
def word0 (codes : Vec F S32x1x4x128 .i8) : IVec S8x128 32 :=
  shapeCast S8x128 (extractStridedSlice S8x1x128 ![0, 0, 0] (words codes) slices_S8x4x128_o0_0_0_S8x1x128) shapeCasts_S8x1x128_S8x128
/-- The words of the code rows `4 s + 1`. -/
def word1 (codes : Vec F S32x1x4x128 .i8) : IVec S8x128 32 :=
  shapeCast S8x128 (extractStridedSlice S8x1x128 ![0, 1, 0] (words codes) slices_S8x4x128_o0_1_0_S8x1x128) shapeCasts_S8x1x128_S8x128
/-- The words of the code rows `4 s + 2`. -/
def word2 (codes : Vec F S32x1x4x128 .i8) : IVec S8x128 32 :=
  shapeCast S8x128 (extractStridedSlice S8x1x128 ![0, 2, 0] (words codes) slices_S8x4x128_o0_2_0_S8x1x128) shapeCasts_S8x1x128_S8x128
/-- The words of the code rows `4 s + 3`. -/
def word3 (codes : Vec F S32x1x4x128 .i8) : IVec S8x128 32 :=
  shapeCast S8x128 (extractStridedSlice S8x1x128 ![0, 3, 0] (words codes) slices_S8x4x128_o0_3_0_S8x1x128) shapeCasts_S8x1x128_S8x128

/-- Two words joined bytewise: bytes 0 and 2 of `u` and of `v`, in the order `u0 v0 u2 v2`. -/
def pack8 (u v : IVec S8x128 32) : IVec S8x128 32 :=
  bitcast S8x128 32 (ori (andi (bitcast S16x128 16 u bitcasts_S8x128_w32_S16x128_w16) (broadcast S16x128 255#16))
    (shli (bitcast S16x128 16 v bitcasts_S8x128_w32_S16x128_w16) (broadcast S16x128 8#16))) bitcasts_S16x128_w16_S8x128_w32

/-- Words shifted right by 8. -/
def shr8 (u : IVec S8x128 32) : IVec S8x128 32 := shrui u (broadcast S8x128 8#32)
/-- Words shifted right by 16. -/
def shr16 (u : IVec S8x128 32) : IVec S8x128 32 := shrui u (broadcast S8x128 16#32)

/-- Byte 0 of each of the four words, as one word. -/
def quad0 (codes : Vec F S32x1x4x128 .i8) : IVec S8x128 32 :=
  packElementwiseI16 (pack8 (word0 codes) (word1 codes)) (pack8 (word2 codes) (word3 codes))
/-- Byte 1 of each of the four words, as one word. -/
def quad1 (codes : Vec F S32x1x4x128 .i8) : IVec S8x128 32 :=
  packElementwiseI16 (pack8 (shr8 (word0 codes)) (shr8 (word1 codes))) (pack8 (shr8 (word2 codes)) (shr8 (word3 codes)))
/-- Byte 2 of each of the four words, as one word. -/
def quad2 (codes : Vec F S32x1x4x128 .i8) : IVec S8x128 32 :=
  packElementwiseI16 (shr16 (pack8 (word0 codes) (word1 codes))) (shr16 (pack8 (word2 codes) (word3 codes)))
/-- Byte 3 of each of the four words, as one word. -/
def quad3 (codes : Vec F S32x1x4x128 .i8) : IVec S8x128 32 :=
  packElementwiseI16 (shr16 (pack8 (shr8 (word0 codes)) (shr8 (word1 codes)))) (shr16 (pack8 (shr8 (word2 codes)) (shr8 (word3 codes))))

/-! ## One group of 32 rows: the scales and the product -/

/-- The lane each element of a gather of 16 rows reads: `j` itself, a negative one counted from the end. -/
def lane (j : IVec S16x128 32) : IVec S16x128 32 :=
  shapeCast S16x128 (shapeCast S16x128x1 (select (cmpi .slt j (broadcast S16x128 0#32)) (addi j (broadcast S16x128 128#32)) j)
    shapeCasts_S16x128_S16x128x1) shapeCasts_S16x128x1_S16x128

/-- 16 rows of the scale table, each row's element at lane `j` spread over the row. -/
def gathered (j : IVec S16x128 32) (s : Vec F S16x128 .bf16) : FVec F S16x128 .bf16 :=
  truncf .bf16 (dynamicGather 1 (extf .f32 (shapeCast S16x128 (s : FVec F S16x128 .bf16) shapeCasts_S16x128_S16x128) bitsLt_bf16_f32) (lane j)) bitsLt_bf16_f32

/-- The 32 rows' scales. -/
def scales (j : IVec S16x128 32) (s₀ s₁ : Vec F S16x128 .bf16) : FVec F S32x128 .bf16 :=
  concatenate S32x128 0 [⟨S16x128, gathered j s₀⟩, ⟨S16x128, gathered j s₁⟩] concatenates_S16x128_S16x128_S32x128_d0

/-- A quad of code bytes times the rows' scales. -/
def dequant (q : IVec S8x128 32) (s : FVec F S32x128 .bf16) : FVec F S32x128 .bf16 :=
  mulf (sitofp .bf16 (bitcast S32x128 8 q bitcasts_S8x128_w32_S32x128_w8)) s

/-! ## The loads -/

/-- Code rows `k … k + 31` of the block. -/
def codesAt (x1 : Vec F S3584x1x4x128 .i8) (k : ℕ) (hk : k + 32 ≤ 3584) : Vec F S32x1x4x128 .i8 :=
  View.ld x1 (Rect.unit (s := S3584x1x4x128) ![k, 0, 0, 0] S32x1x4x128.size
    (fun a => match a with | ⟨0, _⟩ => hk | ⟨1, _⟩ => Nat.le_refl 1 | ⟨2, _⟩ => Nat.le_refl 4 | ⟨3, _⟩ => Nat.le_refl 128))

/-- Scale rows `k … k + 15` of the table. -/
def scalesAt (x2 : Vec F S3584x128 .bf16) (k : ℕ) (hk : k + 16 ≤ 3584) : Vec F S16x128 .bf16 :=
  View.ld x2 (Rect.unit (s := S3584x128) ![k, 0] S16x128.size
    (fun a => match a with | ⟨0, _⟩ => hk | ⟨1, _⟩ => Nat.le_refl 128))

/-- Columns `k … k + 255` of `x`. -/
def xAt (x0 : Vec F S256x3584 .bf16) (k : ℕ) (hk : k + 256 ≤ 3584) : Vec F S256x256 .bf16 :=
  View.ld x0 (Rect.unit (s := S256x3584) ![0, k] S256x256.size
    (fun a => match a with | ⟨0, _⟩ => Nat.le_refl 256 | ⟨1, _⟩ => hk))

/-! ## One tile of 256 rows, and the sum over the tiles -/

/-- Rows `k … k + 31` of the scales, spread over the lanes. -/
def groupScales (j : IVec S16x128 32) (x2 : Vec F S3584x128 .bf16) (k : ℕ) (hk : k + 32 ≤ 3584) : FVec F S32x128 .bf16 :=
  scales j (scalesAt x2 k (by omega)) (scalesAt x2 (k + 16) (by omega))

/-- Column quad `q` of rows `k … k + 31` of the weights. -/
def group (q : Vec F S32x1x4x128 .i8 → IVec S8x128 32) (j : IVec S16x128 32) (x1 : Vec F S3584x1x4x128 .i8) (x2 : Vec F S3584x128 .bf16)
    (k : ℕ) (hk : k + 32 ≤ 3584) : FVec F S32x128 .bf16 :=
  dequant (q (codesAt x1 k hk)) (groupScales j x2 k hk)

/-- Column quad `q` of rows `k … k + 255` of the weights: 8 groups, one below the other. -/
def column (q : Vec F S32x1x4x128 .i8 → IVec S8x128 32) (j : IVec S16x128 32) (x1 : Vec F S3584x1x4x128 .i8) (x2 : Vec F S3584x128 .bf16)
    (k : ℕ) (hk : k + 256 ≤ 3584) : FVec F S256x128 .bf16 :=
  concatenate S256x128 0 [⟨S32x128, group q j x1 x2 k (by omega)⟩, ⟨S32x128, group q j x1 x2 (k + 32) (by omega)⟩,
    ⟨S32x128, group q j x1 x2 (k + 64) (by omega)⟩, ⟨S32x128, group q j x1 x2 (k + 96) (by omega)⟩,
    ⟨S32x128, group q j x1 x2 (k + 128) (by omega)⟩, ⟨S32x128, group q j x1 x2 (k + 160) (by omega)⟩,
    ⟨S32x128, group q j x1 x2 (k + 192) (by omega)⟩, ⟨S32x128, group q j x1 x2 (k + 224) (by omega)⟩]
    concatenates_S32x128_S32x128_S32x128_S32x128_S32x128_S32x128_S32x128_S32x128_S256x128_d0

/-- Rows `k … k + 255` of the weights: the four column quads side by side. -/
def tile (j : IVec S16x128 32) (x1 : Vec F S3584x1x4x128 .i8) (x2 : Vec F S3584x128 .bf16) (k : ℕ) (hk : k + 256 ≤ 3584) :
    FVec F S256x512 .bf16 :=
  concatenate S256x512 1 [⟨S256x128, column quad0 j x1 x2 k hk⟩, ⟨S256x128, column quad1 j x1 x2 k hk⟩,
    ⟨S256x128, column quad2 j x1 x2 k hk⟩, ⟨S256x128, column quad3 j x1 x2 k hk⟩]
    concatenates_S256x128_S256x128_S256x128_S256x128_S256x512_d1

/-- Columns `k … k + 255` of `x` times rows `k … k + 255` of the weights. -/
def partialProduct (j : IVec S16x128 32) (x0 : Vec F S256x3584 .bf16) (x1 : Vec F S3584x1x4x128 .i8) (x2 : Vec F S3584x128 .bf16)
    (k : ℕ) (hk : k + 256 ≤ 3584) : FVec F S256x512 .f32 :=
  matmul dot_S256x256_S256x512_S256x512_1_0_0_1_n_n none (shapeCast S256x256 (xAt x0 k hk : FVec F S256x256 .bf16) shapeCasts_S256x256_S256x256)
    (tile j x1 x2 k hk) (constant S256x512 .f32 0x00000000#32)

/-- The sum of the partial products of tiles `0 … n`, added in order. -/
def accumulated (j : IVec S16x128 32) (x0 : Vec F S256x3584 .bf16) (x1 : Vec F S3584x1x4x128 .i8) (x2 : Vec F S3584x128 .bf16) :
    (n : ℕ) → n < 14 → FVec F S256x512 .f32
  | 0, _ => partialProduct j x0 x1 x2 0 (by omega)
  | n + 1, h => addf (accumulated j x0 x1 x2 n (by omega)) (partialProduct j x0 x1 x2 (256 * (n + 1)) (by omega))

/-- The block one grid point stores. -/
def blockOut (j : IVec S16x128 32) (x0 : Vec F S256x3584 .bf16) (x1 : Vec F S3584x1x4x128 .i8) (x2 : Vec F S3584x128 .bf16) :
    FVec F S256x512 .bf16 :=
  truncf .bf16 (accumulated j x0 x1 x2 13 (by omega)) bitsLt_bf16_f32

end Cert.Proof
-- ==== Proof.Bytes.lean ====
/-
  THE BYTE TRANSPOSITION: the four words of a group, taken apart and put together bytewise, give back the code bytes — element
  `[r, l]` of column quad `n`, read as bytes, is code row `r`'s byte row `n` at lane `l`.
-/
module

public import proofs.«01_k».proof.Proof.Group
public import Idealize.ShloMosaic.Lib.BitcastPair
public import Idealize.ShloMosaic.Lib.ValueIdxCore
public import Idealize.ShloMosaic.Lib.Pointwise.ElementwiseCore

@[expose] public section

noncomputable section

namespace Cert.Proof

open Idealize.ShloMosaic hiding ix1 ix2 ix3 ix4 ix5
open Idealize.ShloMosaic.ValueIdx Cert.KernelIdeal Cert.KernelIdeal.Facts₀ Cert.KernelIdeal.Facts

variable {F : FTy → Type} [FloatOps F] [Cert.KernelIdeal.Facts]

/-- A reinterpretation at another width, of rows of `n` lanes: bit `q` of row `a` is bit `(a w + q) % v` of row `(a w + q) / v`
    of that lane. -/
theorem bitcast_bit {R r n v w : ℕ} (hv : 0 < v) (x : (⟨2, ![R, n]⟩ : Shape).Idx → BitVec v)
    (h : (⟨2, ![R, n]⟩ : Shape).Bitcasts v ⟨2, ![r, n]⟩ w) (a : Fin r) (l : Fin n) (q : ℕ) (hq : q < w) (p : Fin R) (o : ℕ)
    (hp : (a.val * w + q) / v = p.val) (ho : (a.val * w + q) % v = o) :
    (bitcast ⟨2, ![r, n]⟩ w x h (ix2 a l)).getLsbD q = (x (ix2 p l)).getLsbD o := by
  rw [bitcast_getLsbD x h _ q hq hv, ← ho]
  congr 2
  funext c
  match c with
  | ⟨0, _⟩ => exact Fin.ext ((h.srcIdx_row _ _ _ ⟨0, Nat.zero_lt_two⟩ rfl).trans hp)
  | ⟨1, _⟩ => exact Fin.ext (h.srcIdx_other _ _ _ ⟨1, Nat.one_lt_two⟩ (by show ¬ 1 + 2 = 2; omega))

/-- Bit `q` of word `[s, b, l]` of a group is bit `q % 8` of code row `4 s + b`'s byte row `q / 8`. -/
theorem words_bit (codes : Vec F S32x1x4x128 .i8) (s : Fin 8) (b : Fin 4) (l : Fin 128) (q : ℕ) (hq : q < 32) :
    BitVec.getLsbD (words codes (ix3 s b l)) q
      = BitVec.getLsbD (w := 8) (codes (ix4 (⟨4 * s.val + b.val, by omega⟩ : Fin 32) (0 : Fin 1) (⟨q / 8, by omega⟩ : Fin 4) l)) (q % 8) := by
  unfold words
  rw [shapeCast_apply _ _ (ix3 s b l) (ix2 (⟨4 * s.val + b.val, by omega⟩ : Fin 32) l)
    (by rw [Shape.rowMajor_val_two, Shape.rowMajor_val_three]
        show (4 * s.val + b.val) * 128 + l.val = (s.val * 4 + b.val) * 128 + l.val; omega)]
  rw [bitcast_bit (by decide) _ _ _ _ q hq (⟨4 * (4 * s.val + b.val) + q / 8, by omega⟩ : Fin 128) (q % 8)
    (by show ((4 * s.val + b.val) * 32 + q) / 8 = 4 * (4 * s.val + b.val) + q / 8; omega)
    (by show ((4 * s.val + b.val) * 32 + q) % 8 = q % 8; omega)]
  rw [shapeCast_apply _ _ _ (ix4 (⟨4 * s.val + b.val, by omega⟩ : Fin 32) (0 : Fin 1) (⟨q / 8, by omega⟩ : Fin 4) l)
    (by rw [Shape.rowMajor_val_two, Shape.rowMajor_val_four]
        show (((4 * s.val + b.val) * 1 + 0) * 4 + q / 8) * 128 + l.val = (4 * (4 * s.val + b.val) + q / 8) * 128 + l.val; omega)]
  rw [shapeCast_self]

/-- Row `b` of each four, taken out of an [8, 4, 128] array. -/
theorem row_of_four (w : IVec S8x4x128 32) (b : Fin 4) (off : Fin 3 → ℕ) (hoff : off = ![0, b.val, 0]) (h : S8x4x128.Slices off S8x1x128)
    (h' : S8x1x128.ShapeCasts S8x128) (s : Fin 8) (l : Fin 128) :
    shapeCast S8x128 (extractStridedSlice S8x1x128 off w h) h' (ix2 s l) = w (ix3 s b l) := by
  subst hoff
  rw [shapeCast_apply _ _ (ix2 s l) (ix3 s (0 : Fin 1) l)
    (by rw [Shape.rowMajor_val_two, Shape.rowMajor_val_three]
        show (s.val * 1 + 0) * 128 + l.val = s.val * 128 + l.val; omega)]
  refine extractStridedSlice_apply _ _ _ _ _ fun a => ?_
  match a with
  | ⟨0, _⟩ => show s.val = 0 + s.val; omega
  | ⟨1, _⟩ => show b.val = b.val + 0; omega
  | ⟨2, _⟩ => show l.val = 0 + l.val; omega

/-- Bit `q` of two words joined bytewise: the even bytes are `u`'s, each odd byte is `v`'s byte below it. -/
theorem pack8_bit (u v : IVec S8x128 32) (s : Fin 8) (l : Fin 128) (q : ℕ) (hq : q < 32) :
    BitVec.getLsbD (pack8 u v (ix2 s l)) q
      = if q % 16 < 8 then BitVec.getLsbD (u (ix2 s l)) q else BitVec.getLsbD (v (ix2 s l)) (q - 8) := by
  have half (x : IVec S8x128 32) (h : S8x128.Bitcasts 32 S16x128 16) (o : ℕ) (ho : o < 16) :
      BitVec.getLsbD (bitcast S16x128 16 x h (ix2 (⟨2 * s.val + q / 16, by omega⟩ : Fin 16) l)) o = BitVec.getLsbD (x (ix2 s l)) (16 * (q / 16) + o) :=
    bitcast_bit (by decide) _ _ _ _ o ho s (16 * (q / 16) + o)
      (by show ((2 * s.val + q / 16) * 16 + o) / 32 = s.val; omega)
      (by show ((2 * s.val + q / 16) * 16 + o) % 32 = 16 * (q / 16) + o; omega)
  unfold pack8
  rw [bitcast_bit (by decide) _ _ _ _ q hq (⟨2 * s.val + q / 16, by omega⟩ : Fin 16) (q % 16)
    (by show (s.val * 32 + q) / 16 = 2 * s.val + q / 16; omega) (by show (s.val * 32 + q) % 16 = q % 16; omega)]
  show BitVec.getLsbD (IntOp.ori (IntOp.andi (bitcast S16x128 16 u _ _) 255#16) (IntOp.shli .vector (bitcast S16x128 16 v _ _) 8#16)) (q % 16) = _
  have hshl (y : BitVec 16) : IntOp.shli .vector y 8#16 = y <<< 8 := rfl
  have h255 : ∀ o : Fin 16, (255#16 : BitVec 16).getLsbD o.val = decide (o.val < 8) := by decide
  rw [hshl]
  simp only [IntOp.ori, IntOp.andi, BitVec.getLsbD_or, BitVec.getLsbD_and, BitVec.getLsbD_shiftLeft]
  rw [h255 ⟨q % 16, by omega⟩, half u _ _ (by omega), show 16 * (q / 16) + q % 16 = q by omega]
  by_cases h8 : q % 16 < 8
  · simp [h8]
  · rw [half v _ _ (by omega), show 16 * (q / 16) + (q % 16 - 8) = q - 8 by omega]
    simp [h8, show q % 16 < 16 by omega]

/-- A word shifted right by 8. -/
theorem shr8_apply (u : IVec S8x128 32) (i : S8x128.Idx) : shr8 u i = (u i : BitVec 32) >>> 8 := rfl

/-- Bit `q` of words shifted right by 16. -/
theorem shr16_bit (u : IVec S8x128 32) (i : S8x128.Idx) (q : ℕ) : BitVec.getLsbD (shr16 u i) q = BitVec.getLsbD (u i) (16 + q) := by
  show BitVec.getLsbD (u i >>> 16) q = _
  rw [BitVec.getLsbD_ushiftRight]

/-- Bit `q` of the low halves of two words, joined. -/
theorem pack16_bit (u v : IVec S8x128 32) (i : S8x128.Idx) (q : ℕ) (hq : q < 32) :
    BitVec.getLsbD (packElementwiseI16 u v i) q = if q < 16 then BitVec.getLsbD (u i) q else BitVec.getLsbD (v i) (q - 16) := by
  rw [packElementwiseI16_apply, BitVec.getLsbD_append]
  by_cases h : q < 16
  · simp [h]
  · simp [h, show q - 16 < 16 by omega]

/-- A code byte of a group: row `r`, byte row `n`, lane `l`. -/
def codeByte (codes : Vec F S32x1x4x128 .i8) (r : Fin 32) (n : Fin 4) (l : Fin 128) : BitVec 8 := codes (ix4 r (0 : Fin 1) n l)

/-- `q` GIVES BYTE ROW `n`: bit `o` of byte `e` of its word `[s, l]` is bit `o` of code row `4 s + e`'s byte row `n`. -/
def Gives (n : Fin 4) (q : Vec F S32x1x4x128 .i8 → IVec S8x128 32) : Prop :=
  ∀ (codes : Vec F S32x1x4x128 .i8) (s : Fin 8) (l : Fin 128) (e : Fin 4) (o : ℕ), o < 8 →
    BitVec.getLsbD (q codes (ix2 s l)) (8 * e.val + o) = BitVec.getLsbD (codeByte codes ⟨4 * s.val + e.val, by omega⟩ n l) o

/-- Word `b` of each four, at a bit written as byte and offset. -/
theorem word_bit (codes : Vec F S32x1x4x128 .i8) (s : Fin 8) (b : Fin 4) (l : Fin 128) (n : Fin 4) (o : ℕ) (ho : o < 8) (q : ℕ)
    (hq : q = 8 * n.val + o) :
    BitVec.getLsbD (words codes (ix3 s b l)) q = BitVec.getLsbD (codeByte codes ⟨4 * s.val + b.val, by omega⟩ n l) o := by
  subst hq
  rw [words_bit codes s b l _ (by omega), show (8 * n.val + o) % 8 = o by omega]
  unfold codeByte
  congr 4
  omega

/-- The four words of row `s`, read off the [8, 4, 128] array of words. -/
theorem word0_apply (codes : Vec F S32x1x4x128 .i8) (s : Fin 8) (l : Fin 128) : word0 codes (ix2 s l) = words codes (ix3 s (0 : Fin 4) l) :=
  row_of_four _ 0 _ rfl _ _ s l
/-- The second of the four. -/
theorem word1_apply (codes : Vec F S32x1x4x128 .i8) (s : Fin 8) (l : Fin 128) : word1 codes (ix2 s l) = words codes (ix3 s (1 : Fin 4) l) :=
  row_of_four _ 1 _ rfl _ _ s l
/-- The third. -/
theorem word2_apply (codes : Vec F S32x1x4x128 .i8) (s : Fin 8) (l : Fin 128) : word2 codes (ix2 s l) = words codes (ix3 s (2 : Fin 4) l) :=
  row_of_four _ 2 _ rfl _ _ s l
/-- The fourth. -/
theorem word3_apply (codes : Vec F S32x1x4x128 .i8) (s : Fin 8) (l : Fin 128) : word3 codes (ix2 s l) = words codes (ix3 s (3 : Fin 4) l) :=
  row_of_four _ 3 _ rfl _ _ s l

/-- The low halves of two bytewise joins give byte 0 of each of four words `a b c d`: bit `o` of byte `e`. -/
theorem low_bit (a b c d : IVec S8x128 32) (s : Fin 8) (l : Fin 128) (f : Fin 4 → BitVec 32)
    (ha : a (ix2 s l) = f 0) (hb : b (ix2 s l) = f 1) (hc : c (ix2 s l) = f 2) (hd : d (ix2 s l) = f 3) (e : Fin 4) (o : ℕ) (ho : o < 8) :
    BitVec.getLsbD (packElementwiseI16 (pack8 a b) (pack8 c d) (ix2 s l)) (8 * e.val + o)
      = BitVec.getLsbD (f e) o := by
  rw [pack16_bit _ _ _ _ (by omega)]
  match e with
  | ⟨0, _⟩ =>
    show _ = BitVec.getLsbD (f 0) o
    dsimp only
    rw [if_pos (by omega), pack8_bit _ _ _ _ _ (by omega), if_pos (by omega), ha]; congr 1; omega
  | ⟨1, _⟩ =>
    show _ = BitVec.getLsbD (f 1) o
    dsimp only
    rw [if_pos (by omega), pack8_bit _ _ _ _ _ (by omega), if_neg (by omega), hb]; congr 1; omega
  | ⟨2, _⟩ =>
    show _ = BitVec.getLsbD (f 2) o
    dsimp only
    rw [if_neg (by omega), pack8_bit _ _ _ _ _ (by omega), if_pos (by omega), hc]; congr 1; omega
  | ⟨3, _⟩ =>
    show _ = BitVec.getLsbD (f 3) o
    dsimp only
    rw [if_neg (by omega), pack8_bit _ _ _ _ _ (by omega), if_neg (by omega), hd]; congr 1; omega

/-- The high halves give byte 2 of each. -/
theorem high_bit (a b c d : IVec S8x128 32) (s : Fin 8) (l : Fin 128) (f : Fin 4 → BitVec 32)
    (ha : a (ix2 s l) = f 0) (hb : b (ix2 s l) = f 1) (hc : c (ix2 s l) = f 2) (hd : d (ix2 s l) = f 3) (e : Fin 4) (o : ℕ) (ho : o < 8) :
    BitVec.getLsbD (packElementwiseI16 (shr16 (pack8 a b)) (shr16 (pack8 c d)) (ix2 s l)) (8 * e.val + o)
      = BitVec.getLsbD (f e) (16 + o) := by
  rw [pack16_bit _ _ _ _ (by omega), shr16_bit, shr16_bit]
  match e with
  | ⟨0, _⟩ =>
    show _ = BitVec.getLsbD (f 0) (16 + o)
    dsimp only
    rw [if_pos (by omega), pack8_bit _ _ _ _ _ (by omega), if_pos (by omega), ha]; congr 1; omega
  | ⟨1, _⟩ =>
    show _ = BitVec.getLsbD (f 1) (16 + o)
    dsimp only
    rw [if_pos (by omega), pack8_bit _ _ _ _ _ (by omega), if_neg (by omega), hb]; congr 1; omega
  | ⟨2, _⟩ =>
    show _ = BitVec.getLsbD (f 2) (16 + o)
    dsimp only
    rw [if_neg (by omega), pack8_bit _ _ _ _ _ (by omega), if_pos (by omega), hc]; congr 1; omega
  | ⟨3, _⟩ =>
    show _ = BitVec.getLsbD (f 3) (16 + o)
    dsimp only
    rw [if_neg (by omega), pack8_bit _ _ _ _ _ (by omega), if_neg (by omega), hd]; congr 1; omega

/-- The first quad gives byte row 0. -/
theorem quad0_gives : Gives (F := F) 0 quad0 := fun codes s l e o ho => by
  unfold quad0
  rw [low_bit _ _ _ _ s l (fun e => words codes (ix3 s e l)) (word0_apply ..) (word1_apply ..) (word2_apply ..) (word3_apply ..) e o ho]
  exact word_bit codes s e l 0 o ho _ (by show o = 8 * 0 + o; omega)
/-- The second gives byte row 1. -/
theorem quad1_gives : Gives (F := F) 1 quad1 := fun codes s l e o ho => by
  unfold quad1
  rw [low_bit _ _ _ _ s l (fun e => BitVec.ushiftRight (words codes (ix3 s e l)) 8) (by rw [shr8_apply, word0_apply]; rfl)
    (by rw [shr8_apply, word1_apply]; rfl) (by rw [shr8_apply, word2_apply]; rfl) (by rw [shr8_apply, word3_apply]; rfl) e o ho]
  refine (BitVec.getLsbD_ushiftRight _ _ _).trans ?_
  exact word_bit codes s e l 1 o ho _ (by show 8 + o = 8 * 1 + o; omega)
/-- The third gives byte row 2. -/
theorem quad2_gives : Gives (F := F) 2 quad2 := fun codes s l e o ho => by
  unfold quad2
  rw [high_bit _ _ _ _ s l (fun e => words codes (ix3 s e l)) (word0_apply ..) (word1_apply ..) (word2_apply ..) (word3_apply ..) e o ho]
  exact word_bit codes s e l 2 o ho _ (by show 16 + o = 8 * 2 + o; omega)
/-- The fourth gives byte row 3. -/
theorem quad3_gives : Gives (F := F) 3 quad3 := fun codes s l e o ho => by
  unfold quad3
  rw [high_bit _ _ _ _ s l (fun e => BitVec.ushiftRight (words codes (ix3 s e l)) 8) (by rw [shr8_apply, word0_apply]; rfl)
    (by rw [shr8_apply, word1_apply]; rfl) (by rw [shr8_apply, word2_apply]; rfl) (by rw [shr8_apply, word3_apply]; rfl) e o ho]
  refine (BitVec.getLsbD_ushiftRight _ _ _).trans ?_
  exact word_bit codes s e l 3 o ho _ (by show 8 + (16 + o) = 8 * 3 + o; omega)

/-- A quad that gives byte row `n`, read as bytes: element `[r, l]` is code row `r`'s byte row `n` at lane `l`. -/
theorem bytes_apply {n : Fin 4} {q : Vec F S32x1x4x128 .i8 → IVec S8x128 32} (hq : Gives n q) (codes : Vec F S32x1x4x128 .i8)
    (r : Fin 32) (l : Fin 128) : bitcast S32x128 8 (q codes) bitcasts_S8x128_w32_S32x128_w8 (ix2 r l) = codeByte codes r n l := by
  apply BitVec.eq_of_getLsbD_eq
  intro o ho
  rw [bitcast_bit (by decide) _ _ r l o ho (⟨r.val / 4, by omega⟩ : Fin 8) (8 * (r.val % 4) + o) (by show (r.val * 8 + o) / 32 = r.val / 4; omega) (by omega)]
  rw [hq codes ⟨r.val / 4, by omega⟩ l ⟨r.val % 4, by omega⟩ o ho]
  congr 2
  apply Fin.ext
  show 4 * (r.val / 4) + r.val % 4 = r.val
  omega

end Cert.Proof
-- ==== Proof.Tile.lean ====
/-
  ONE TILE OF THE WEIGHTS AT THE EXTENDED REALS: row `r`, column `c` of the tile of rows `k … k + 255` is the code of weight row
  `k + r` at the block's column `c` times that row's scale at lane `j` of the scale table.
-/
module

public import proofs.«01_k».proof.Proof.Bytes
public import Idealize.ShloMosaic.Lib.ValueIdx

@[expose] public section

noncomputable section

namespace Cert.Proof

open Idealize.ShloMosaic hiding ix1 ix2 ix3 ix4 ix5 mulf_apply addf_apply truncf_apply extf_apply
open Idealize.ShloMosaic.ValueIdx Cert.KernelIdeal Cert.KernelIdeal.Facts₀ Cert.KernelIdeal.Facts

variable [Cert.KernelIdeal.Facts]

/-- Weight row `k`, column `c` of the block at the extended reals: its code times the row's scale, which lies at lane `j`. -/
def weight (j : Fin 128) (x1 : Vec Ideal S3584x1x4x128 .i8) (x2 : Vec Ideal S3584x128 .bf16) (k : Fin 3584) (c : Fin 512) : EReal :=
  (FloatOps.sitofp (F := Ideal) .bf16 (x1 (ix4 k 0 (⟨c.val / 128, by omega⟩ : Fin 4) (⟨c.val % 128, by omega⟩ : Fin 128)) : BitVec 8) : EReal) *
    (x2 (ix2 k j) : EReal)

/-! ## The scales -/

/-- The lane of a gather at one word `J` everywhere, not negative, is `J`. -/
theorem lane_apply (J : BitVec 32) (hJ : Scalar.cmpi .slt J 0#32 = 0#1) (i : S16x128.Idx) : lane (broadcast S16x128 J) i = J := by
  unfold lane
  rw [shapeCast_shapeCast]
  show Scalar.select (Scalar.cmpi .slt J 0#32) _ J = J
  rw [hJ]
  rfl

/-- A block's number, below 128, is not negative as a word. -/
theorem not_negative : ∀ j : Fin 128, Scalar.cmpi .slt (BitVec.ofNat 32 j.val) 0#32 = 0#1 := by decide

/-- The gather spreads lane `j` of each row over the row. -/
theorem gathered_apply (j : Fin 128) (s : Vec Ideal S16x128 .bf16) (r : Fin 16) (l : Fin 128) :
    gathered (broadcast S16x128 (BitVec.ofNat 32 j.val)) s (ix2 r l) = s (ix2 r j) := by
  unfold gathered
  rw [truncf_apply]
  show extf .f32 _ _ _ = _
  rw [extf_apply, shapeCast_self]
  refine congrArg s (funext fun a => ?_)
  match a with
  | ⟨0, _⟩ => rfl
  | ⟨1, _⟩ =>
    apply Fin.ext
    show (lane (broadcast S16x128 (BitVec.ofNat 32 j.val)) (ix2 r l)).toNat % 128 = j.val
    rw [lane_apply _ (not_negative j), BitVec.toNat_ofNat]
    omega

/-- The scale rows loaded at `k`, read at row `r`, are row `k + r` of the table. -/
theorem scalesAt_apply (x2 : Vec Ideal S3584x128 .bf16) (k : ℕ) (hk : k + 16 ≤ 3584) (r : Fin 16) (l : Fin 128) :
    scalesAt x2 k hk (ix2 r l) = x2 (ix2 (⟨k + r.val, by omega⟩ : Fin 3584) l) :=
  View.ld_unit_apply_of _ _ _ _ _ _ fun a => match a with
    | ⟨0, _⟩ => rfl
    | ⟨1, _⟩ => (Nat.zero_add _).symm

/-- The scales of a group of 32 rows: at every lane of row `r`, the scale of weight row `k + r`. -/
theorem groupScales_apply (j : Fin 128) (x2 : Vec Ideal S3584x128 .bf16) (k : ℕ) (hk : k + 32 ≤ 3584) (r : Fin 32) (l : Fin 128) :
    groupScales (broadcast S16x128 (BitVec.ofNat 32 j.val)) x2 k hk (ix2 r l) = x2 (ix2 (⟨k + r.val, by omega⟩ : Fin 3584) j) := by
  unfold groupScales scales
  by_cases h : r.val < 16
  · rw [concatenate_pair_apply_left (s₁ := S16x128) (s₂ := S16x128) 0 _ _ _ (ix2 r l) rfl (ix2 (⟨r.val, h⟩ : Fin 16) l)
      (fun b => match b with | ⟨0, _⟩ => rfl | ⟨1, _⟩ => rfl), gathered_apply, scalesAt_apply]
  · rw [concatenate_pair_apply_right (s₁ := S16x128) (s₂ := S16x128) 0 _ _ _ (ix2 r l) rfl rfl (ix2 (⟨r.val - 16, by omega⟩ : Fin 16) l)
      (fun b hb => match b, hb with | ⟨0, _⟩, hb => absurd rfl hb | ⟨1, _⟩, _ => rfl)
      (by show r.val - 16 + 16 = r.val; omega), gathered_apply, scalesAt_apply]
    refine congrArg x2 (congrArg (fun p : Fin 3584 => ix2 p j) (Fin.ext ?_))
    show k + 16 + (r.val - 16) = k + r.val
    omega

/-! ## The codes -/

/-- The code rows loaded at `k`, read at row `r`, are row `k + r` of the block. -/
theorem codesAt_apply (x1 : Vec Ideal S3584x1x4x128 .i8) (k : ℕ) (hk : k + 32 ≤ 3584) (r : Fin 32) (n : Fin 4) (l : Fin 128) :
    codesAt x1 k hk (ix4 r 0 n l) = x1 (ix4 (⟨k + r.val, by omega⟩ : Fin 3584) 0 n l) :=
  View.ld_unit_apply_of _ _ _ _ _ _ fun a => match a with
    | ⟨0, _⟩ => rfl
    | ⟨1, _⟩ => rfl
    | ⟨2, _⟩ => (Nat.zero_add _).symm
    | ⟨3, _⟩ => (Nat.zero_add _).symm

/-! ## Groups, columns, the tile -/

/-- Row `r`, lane `l` of column quad `n` of the group at `k` is weight row `k + r` at column `128 n + l`. -/
theorem group_apply {n : Fin 4} {q : Vec Ideal S32x1x4x128 .i8 → IVec S8x128 32} (hq : Gives n q) (j : Fin 128)
    (x1 : Vec Ideal S3584x1x4x128 .i8) (x2 : Vec Ideal S3584x128 .bf16) (k : ℕ) (hk : k + 32 ≤ 3584) (r : Fin 32) (l : Fin 128)
    (p : Fin 3584) (hp : p.val = k + r.val) (c : Fin 512) (hc : c.val = 128 * n.val + l.val) :
    group q (broadcast S16x128 (BitVec.ofNat 32 j.val)) x1 x2 k hk (ix2 r l) = weight j x1 x2 p c := by
  have hk' : (⟨k + r.val, by omega⟩ : Fin 3584) = p := Fin.ext hp.symm
  have hn : (⟨c.val / 128, by omega⟩ : Fin 4) = n := Fin.ext (by show c.val / 128 = n.val; omega)
  have hl : (⟨c.val % 128, by omega⟩ : Fin 128) = l := Fin.ext (by show c.val % 128 = l.val; omega)
  unfold group dequant weight
  rw [mulf_apply, groupScales_apply, sitofp_apply, bytes_apply hq, hn, hl]
  unfold codeByte
  rw [codesAt_apply, hk']

/-- Row `r`, lane `l` of column quad `n` of the tile at `k` is weight row `k + r` at column `128 n + l`. -/
theorem column_apply {n : Fin 4} {q : Vec Ideal S32x1x4x128 .i8 → IVec S8x128 32} (hq : Gives n q) (j : Fin 128)
    (x1 : Vec Ideal S3584x1x4x128 .i8) (x2 : Vec Ideal S3584x128 .bf16) (k : ℕ) (hk : k + 256 ≤ 3584) (r : Fin 256) (l : Fin 128)
    (p : Fin 3584) (hp : p.val = k + r.val) (c : Fin 512) (hc : c.val = 128 * n.val + l.val) :
    column q (broadcast S16x128 (BitVec.ofNat 32 j.val)) x1 x2 k hk (ix2 r l) = weight j x1 x2 p c := by
  unfold column
  refine (concatenate_ofFn_apply (s₁ := S32x128) (t := S256x128) 0
    (fun g : Fin 8 => group q (broadcast S16x128 (BitVec.ofNat 32 j.val)) x1 x2 (k + 32 * g.val) (by omega)) _ rfl 32 rfl (ix2 r l)
    (⟨r.val / 32, by omega⟩ : Fin 8) rfl (ix2 (⟨r.val % 32, by omega⟩ : Fin 32) l) rfl
    (fun b hb => match b, hb with | ⟨0, _⟩, hb => absurd rfl hb | ⟨1, _⟩, _ => rfl)).trans ?_
  exact group_apply hq j x1 x2 _ _ _ _ p (by show p.val = k + 32 * (r.val / 32) + r.val % 32; omega) c hc

/-- The column quad of number `n`. -/
def columnOf (j : IVec S16x128 32) (x1 : Vec Ideal S3584x1x4x128 .i8) (x2 : Vec Ideal S3584x128 .bf16) (k : ℕ) (hk : k + 256 ≤ 3584)
    (n : Fin 4) : FVec Ideal S256x128 .bf16 :=
  match n with
  | 0 => column quad0 j x1 x2 k hk
  | 1 => column quad1 j x1 x2 k hk
  | 2 => column quad2 j x1 x2 k hk
  | 3 => column quad3 j x1 x2 k hk

/-- Row `r`, lane `l` of the column quad of number `n` is weight row `k + r` at column `128 n + l`. -/
theorem columnOf_apply (j : Fin 128) (x1 : Vec Ideal S3584x1x4x128 .i8) (x2 : Vec Ideal S3584x128 .bf16) (k : ℕ) (hk : k + 256 ≤ 3584)
    (n : Fin 4) (r : Fin 256) (l : Fin 128) (p : Fin 3584) (hp : p.val = k + r.val) (c : Fin 512) (hc : c.val = 128 * n.val + l.val) :
    columnOf (broadcast S16x128 (BitVec.ofNat 32 j.val)) x1 x2 k hk n (ix2 r l) = weight j x1 x2 p c :=
  match n, hc with
  | 0, hc => column_apply quad0_gives j x1 x2 k hk r l p hp c hc
  | 1, hc => column_apply quad1_gives j x1 x2 k hk r l p hp c hc
  | 2, hc => column_apply quad2_gives j x1 x2 k hk r l p hp c hc
  | 3, hc => column_apply quad3_gives j x1 x2 k hk r l p hp c hc

/-- Row `r`, column `c` of the tile at `k` is weight row `k + r` at column `c`. -/
theorem tile_apply (j : Fin 128) (x1 : Vec Ideal S3584x1x4x128 .i8) (x2 : Vec Ideal S3584x128 .bf16) (k : ℕ) (hk : k + 256 ≤ 3584)
    (r : Fin 256) (c : Fin 512) (p : Fin 3584) (hp : p.val = k + r.val) :
    tile (broadcast S16x128 (BitVec.ofNat 32 j.val)) x1 x2 k hk (ix2 r c) = weight j x1 x2 p c := by
  unfold tile
  refine (concatenate_ofFn_apply (s₁ := S256x128) (t := S256x512) 1
    (columnOf (broadcast S16x128 (BitVec.ofNat 32 j.val)) x1 x2 k hk) _ rfl 128 rfl (ix2 r c) (⟨c.val / 128, by omega⟩ : Fin 4) rfl
    (ix2 r (⟨c.val % 128, by omega⟩ : Fin 128)) rfl (fun b hb => match b, hb with | ⟨0, _⟩, _ => rfl | ⟨1, _⟩, hb => absurd rfl hb)).trans ?_
  exact columnOf_apply j x1 x2 k hk _ r _ p hp c (by show c.val = 128 * (c.val / 128) + c.val % 128; omega)

end Cert.Proof
-- ==== Proof.Sum.lean ====
/-
  THE SUM OVER THE TILES AT THE EXTENDED REALS: the fourteen partial products of 256 terms, added in order, are one sum of 3584 terms
  — element `[r, c]` of the block a grid point stores is row `r` of `x` times column `c` of the block's weights.
-/
module

public import proofs.«01_k».proof.Proof.Tile
public import Idealize.ShloMosaic.Lib.MatmulPlain

@[expose] public section

noncomputable section

namespace Cert.Proof

open Idealize.ShloMosaic hiding ix1 ix2 ix3 ix4 ix5 mulf_apply addf_apply truncf_apply extf_apply
open Idealize.ShloMosaic.ValueIdx Cert.KernelIdeal Cert.KernelIdeal.Facts₀ Cert.KernelIdeal.Facts
open scoped BigOperators

variable [Cert.KernelIdeal.Facts]

/-- Term `k` of the product's element `[r, c]`: `x` at `[r, k]` times weight row `k`, column `c`. -/
def term (j : Fin 128) (x0 : Vec Ideal S256x3584 .bf16) (x1 : Vec Ideal S3584x1x4x128 .i8) (x2 : Vec Ideal S3584x128 .bf16)
    (r : Fin 256) (c : Fin 512) (k : Fin 3584) : EReal :=
  (x0 (ix2 r k) : EReal) * weight j x1 x2 k c

/-- The same at every natural number, zero from 3584 on. -/
def termAt (j : Fin 128) (x0 : Vec Ideal S256x3584 .bf16) (x1 : Vec Ideal S3584x1x4x128 .i8) (x2 : Vec Ideal S3584x128 .bf16)
    (r : Fin 256) (c : Fin 512) (k : ℕ) : EReal :=
  if h : k < 3584 then term j x0 x1 x2 r c ⟨k, h⟩ else 0

/-- The columns of `x` loaded at `k`, read at column `i`, are column `k + i`. -/
theorem xAt_apply (x0 : Vec Ideal S256x3584 .bf16) (k : ℕ) (hk : k + 256 ≤ 3584) (r i : Fin 256) :
    xAt x0 k hk (ix2 r i) = x0 (ix2 r (⟨k + i.val, by omega⟩ : Fin 3584)) :=
  View.ld_unit_apply_of _ _ _ _ _ _ fun a => match a with
    | ⟨0, _⟩ => (Nat.zero_add _).symm
    | ⟨1, _⟩ => rfl

/-- A partial product is the sum of its tile's 256 terms. -/
theorem partialProduct_apply (j : Fin 128) (x0 : Vec Ideal S256x3584 .bf16) (x1 : Vec Ideal S3584x1x4x128 .i8)
    (x2 : Vec Ideal S3584x128 .bf16) (k : ℕ) (hk : k + 256 ≤ 3584) (r : Fin 256) (c : Fin 512) :
    partialProduct (broadcast S16x128 (BitVec.ofNat 32 j.val)) x0 x1 x2 k hk (ix2 r c)
      = ∑ i ∈ Finset.range 256, termAt j x0 x1 x2 r c (k + i) := by
  unfold partialProduct
  refine (Ideal.matmul_plain_apply (M := 256) (K := 256) (N := 512) none _ _ _ r c).trans ?_
  rw [show (constant S256x512 .f32 0x00000000#32 : FVec Ideal S256x512 .f32) (ix2 r c) = (0 : EReal) from Ideal.ofBits_zero_f32]
  rw [zero_add, Finset.sum_range]
  refine Finset.sum_congr rfl fun i _ => ?_
  rw [shapeCast_self, xAt_apply, tile_apply j x1 x2 k hk i c ⟨k + i.val, by omega⟩ rfl]
  unfold termAt
  rw [dif_pos (show k + i.val < 3584 by omega)]
  rfl

/-- The partial products of tiles `0 … n` add up to the first `256 (n + 1)` terms. -/
theorem accumulated_apply (j : Fin 128) (x0 : Vec Ideal S256x3584 .bf16) (x1 : Vec Ideal S3584x1x4x128 .i8)
    (x2 : Vec Ideal S3584x128 .bf16) (r : Fin 256) (c : Fin 512) : ∀ (n : ℕ) (hn : n < 14),
    accumulated (broadcast S16x128 (BitVec.ofNat 32 j.val)) x0 x1 x2 n hn (ix2 r c)
      = ∑ i ∈ Finset.range (256 * (n + 1)), termAt j x0 x1 x2 r c i
  | 0, _ => by
    rw [accumulated, partialProduct_apply]
    exact Finset.sum_congr rfl fun i _ => by rw [Nat.zero_add]
  | n + 1, hn => by
    rw [accumulated, addf_apply, partialProduct_apply, accumulated_apply j x0 x1 x2 r c n (by omega), Nat.mul_add 256 (n + 1) 1,
      Finset.sum_range_add]

/-- THE BLOCK'S VALUE: element `[r, c]` is the sum of the 3584 terms. -/
theorem blockOut_apply (j : Fin 128) (x0 : Vec Ideal S256x3584 .bf16) (x1 : Vec Ideal S3584x1x4x128 .i8)
    (x2 : Vec Ideal S3584x128 .bf16) (r : Fin 256) (c : Fin 512) :
    blockOut (broadcast S16x128 (BitVec.ofNat 32 j.val)) x0 x1 x2 (ix2 r c) = ∑ k : Fin 3584, term j x0 x1 x2 r c k := by
  unfold blockOut
  rw [truncf_apply, accumulated_apply, Finset.sum_range]
  refine Finset.sum_congr rfl fun k _ => ?_
  unfold termAt
  rw [dif_pos k.isLt]

end Cert.Proof
-- ==== Proof.BlockOut.lean ====
/-
  THE KERNEL'S BODY IS `blockOut`: the value the body stores, spelt out in the order the kernel computes it, is the sum over
  the tiles of Group.lean.
-/
module

public import proofs.«01_k».proof.Proof.Group
public import proofs.«01_k».proof.Proof.Gen.KernelIdeal.Frame

@[expose] public section

set_option maxRecDepth 16384

noncomputable section

namespace Cert.Proof

open Idealize.ShloMosaic Cert.KernelIdeal Cert.KernelIdeal.Gen

variable {F : FTy → Type} [FloatOps F]

/-- The output block after the body is `blockOut` of the three input blocks, at the grid coordinate spread over a vector. -/
theorem out_eq (i : grid0.Coords) (x0 : Vec F S256x3584 .bf16) (x1 : Vec F S3584x1x4x128 .i8) (x2 : Vec F S3584x128 .bf16) :
    out0_3 i x0 x1 x2 = View.canon [⟨r0_350, blockOut (broadcast S16x128 (BitVec.ofNat 32 (i 0).val)) x0 x1 x2⟩] :=
  rfl

end Cert.Proof
-- ==== Proof.KernelValue.lean ====
/-
  THE KERNEL'S RESULT at the extended reals is the product: grid point `t` stores columns `512 t … 512 t + 511` of it, and the 37
  points' blocks fill the array.
-/
module

public import proofs.«01_k».proof.Proof.Product
public import proofs.«01_k».proof.Proof.Sum
public import proofs.«01_k».proof.Proof.BlockOut
public import proofs.«01_k».proof.Proof.Gen.KernelIdeal.Value
public import Idealize.ShloMosaic.Lib.StableHlo.Run
public import Idealize.ShloMosaic.Lib.KernelVsHost

@[expose] public section

noncomputable section

namespace Cert.Proof.Kernel

open Idealize.ShloMosaic hiding ix1 ix2 ix3 ix4 ix5 mulf_apply addf_apply truncf_apply extf_apply
open Idealize.ShloMosaic.ValueIdx Idealize.ShloMosaic.TcCoe Idealize.SL.Sem Cert.KernelIdeal Cert.KernelIdeal.Gen

/-! ## The arrays the kernel finds -/

variable (m : (ℓ : Loc nD τ sig) → Buf (Elt Ideal) ℓ) (c : Dev nD)

/-- `x` as a matrix of 256 rows. -/
abbrev x : FVec Ideal S256x3584 .bf16 :=
  shapeCast S256x3584 (m ((c : Thread nD τ).loc main_arg0)) shapeCasts_S2x128x3584_S256x3584

/-- The scale of each row and chunk. -/
abbrev s : FVec Ideal S3584x37 .bf16 :=
  shapeCast S3584x37 (shapeCast S132608 (broadcastInDim S33152x4 ![0] bcast_S33152_S33152x4_0
    (truncf .bf16 (m ((c : Thread nD τ).loc main_arg2) : FVec Ideal S33152 .f32) bitsLt_bf16_f32)) shapeCasts_S33152x4_S132608) shapeCasts_S132608_S3584x37

/-- The codes by row, chunk, column quad and lane. -/
abbrev codes : IVec S3584x37x4x128 8 :=
  shapeCast S3584x37x4x128 (m ((c : Thread nD τ).loc main_arg1)) shapeCasts_S67895296_S3584x37x4x128

/-- The kernel finds `x` reshaped to 256 rows. -/
theorem V_x : V m c main_v6 = x m c := by
  unfold V
  simp only [List.flatten_cons, List.flatten_nil, List.append_nil, List.cons_append, List.nil_append]
  after_results
  rfl
/-- The kernel finds the codes reshaped, in the same flat order. -/
theorem V_codes : V m c main_v0 = codes m c := by
  unfold V
  simp only [List.flatten_cons, List.flatten_nil, List.append_nil, List.cons_append, List.nil_append]
  after_results
  rfl
/-- The scale table is the scales, padded with zeros on the right to 128 lanes. -/
theorem V_table : V m c main_v5 = pad S3584x128 ![0, 0] ![0, 91] ![0, 0] (s m c) (sitofp .bf16 (constantI S_ 32 0#32) : FVec Ideal S_ .bf16)
    pads_S3584x37_S3584x128_000_0910 h_S_ := by
  unfold V
  simp only [List.flatten_cons, List.flatten_nil, List.append_nil, List.cons_append, List.nil_append]
  after_results
  rfl

/-- Lane `j` of the scale table is chunk `j`. -/
theorem table_apply (k : Fin 3584) (j : Fin 37) : V m c main_v5 (ix2 k (⟨j.val, by omega⟩ : Fin 128)) = s m c (ix2 k j) := by
  rw [V_table]
  exact pad_apply_of_inside _ _ _ _ _ _ _ _ (ix2 k j) fun a => match a with
    | ⟨0, _⟩ => by show k.val = 0 + k.val * (0 + 1); omega
    | ⟨1, _⟩ => by show j.val = 0 + j.val * (0 + 1); omega

/-- The codes at row `k`, chunk `t`, quad `l / 128`, lane `l % 128`: the flat code of column `512 t + l`. -/
theorem codes_apply (k : Fin 3584) (t : Fin 37) (l : Fin 512) (j : Fin 18944) (hj : j.val = 512 * t.val + l.val) :
    codes m c (ix4 k t (⟨l.val / 128, by omega⟩ : Fin 4) (⟨l.val % 128, by omega⟩ : Fin 128))
      = (m ((c : Thread nD τ).loc main_arg1) : IVec S67895296 8) (ix1 (flat k j)) :=
  shapeCast_apply _ shapeCasts_S67895296_S3584x37x4x128 _ _ (by
    rw [Shape.rowMajor_val_four, Shape.rowMajor_val_one]
    show 18944 * k.val + j.val = ((k.val * 37 + t.val) * 4 + l.val / 128) * 128 + l.val % 128
    omega)

/-! ## The blocks -/

/-- Two zero offsets, written out, are the constant zero. -/
theorem hz : (![0, 0] : Fin 2 → Nat) = fun _ => 0 := funext fun a => by fin_cases a <;> rfl

/-- A point's number, as the chunk it stores. -/
def chunkOf (t : Fin cfg0.N) : Fin 37 := ⟨t.val, lt_of_lt_of_eq t.isLt N_0⟩

/-- The grid coordinate of point `t` is `t`. -/
theorem coords_eq : ∀ t : Fin grid0.N, (grid0.coords t 0).val = t.val := by decide +kernel
/-- Point `t` reads the whole of `x` … -/
theorem index_x : ∀ t : Fin grid0.N, win0_0.index t 0 = 0 ∧ win0_0.index t 1 = 0 := by decide +kernel
/-- … the codes of chunk `t` … -/
theorem index_codes : ∀ t : Fin grid0.N, win0_1.index t 0 = 0 ∧ win0_1.index t 1 = t.val ∧ win0_1.index t 2 = 0 ∧ win0_1.index t 3 = 0 := by
  decide +kernel
/-- … and the whole scale table … -/
theorem index_table : ∀ t : Fin grid0.N, win0_2.index t 0 = 0 ∧ win0_2.index t 1 = 0 := by decide +kernel
/-- … and stores columns `512 t …` of the result. -/
theorem index_out : ∀ t : Fin grid0.N, win0_3.index t 0 = 0 ∧ win0_3.index t 1 = t.val := by decide +kernel

/-- Point `t`'s block of `x` is `x`. -/
theorem iblk_x (t : Fin cfg0.N) (r : Fin 256) (k : Fin 3584) : (iblk m c 0 t : Vec Ideal S256x3584 .bf16) (ix2 r k) = x m c (ix2 r k) := by
  rw [← V_x]
  unfold iblk
  rw [View.read_apply]
  show V m c main_v6 _ = V m c main_v6 _
  congr 1
  funext a
  apply Fin.ext
  match a with
  | ⟨0, _⟩ => show win0_0.index t 0 * 256 + 1 * r.val = r.val; rw [(index_x t).1]; omega
  | ⟨1, _⟩ => show win0_0.index t 1 * 3584 + 1 * k.val = k.val; rw [(index_x t).2]; omega

/-- Point `t`'s block of the codes is chunk `t` of them. -/
theorem iblk_codes (t : Fin cfg0.N) (k : Fin 3584) (n : Fin 4) (l : Fin 128) :
    (iblk m c 1 t : Vec Ideal S3584x1x4x128 .i8) (ix4 k 0 n l) = codes m c (ix4 k (chunkOf t) n l) := by
  rw [← V_codes]
  unfold iblk
  rw [View.read_apply]
  show V m c main_v0 _ = V m c main_v0 _
  congr 1
  funext a
  apply Fin.ext
  match a with
  | ⟨0, _⟩ => show win0_1.index t 0 * 3584 + 1 * k.val = k.val; rw [(index_codes t).1]; omega
  | ⟨1, _⟩ => show win0_1.index t 1 * 1 + 1 * 0 = t.val; rw [(index_codes t).2.1]; omega
  | ⟨2, _⟩ => show win0_1.index t 2 * 4 + 1 * n.val = n.val; rw [(index_codes t).2.2.1]; omega
  | ⟨3, _⟩ => show win0_1.index t 3 * 128 + 1 * l.val = l.val; rw [(index_codes t).2.2.2]; omega

/-- Point `t`'s block of the scale table is the table. -/
theorem iblk_table (t : Fin cfg0.N) (k : Fin 3584) (l : Fin 128) :
    (iblk m c 2 t : Vec Ideal S3584x128 .bf16) (ix2 k l) = V m c main_v5 (ix2 k l) := by
  unfold iblk
  rw [View.read_apply]
  show V m c main_v5 _ = V m c main_v5 _
  congr 1
  funext a
  apply Fin.ext
  match a with
  | ⟨0, _⟩ => show win0_2.index t 0 * 3584 + 1 * k.val = k.val; rw [(index_table t).1]; omega
  | ⟨1, _⟩ => show win0_2.index t 1 * 128 + 1 * l.val = l.val; rw [(index_table t).2]; omega

/-! ## The result array -/

/-- The result: the product of the arguments. -/
abbrev result : Buf (Elt Ideal) ((c : Thread nD τ).loc main_v7) := product (x m c) (m ((c : Thread nD τ).loc main_arg1)) (s m c)

/-- Row `r`, column `l` of the block point `t` computes is the product at row `r`, column `512 t + l`. -/
theorem block_apply (t : Fin cfg0.N) (r : Fin 256) (l : Fin 512) (j : Fin 18944) (hj : j.val = 512 * t.val + l.val) :
    blockOut (broadcast S16x128 (BitVec.ofNat 32 t.val)) (iblk m c 0 t) (iblk m c 1 t) (iblk m c 2 t) (ix2 r l)
      = product (x m c) (m ((c : Thread nD τ).loc main_arg1)) (s m c) (ix2 r j) := by
  have hc : chunk j = chunkOf t := Fin.ext (by show j.val / 512 = t.val; omega)
  refine (blockOut_apply (⟨(chunkOf t).val, by omega⟩ : Fin 128) _ _ _ r l).trans ?_
  rw [product_apply]
  refine Finset.sum_congr rfl fun k _ => ?_
  unfold term weight productTerm
  rw [iblk_x, iblk_codes, iblk_table, table_apply, codes_apply m c k (chunkOf t) l j hj, hc]

/-- What point `t` writes back is its block of the product. -/
theorem flushed_eq (t : Fin cfg0.N) (hf : (cfg0.win 3).flush t = true) :
    (dats m 0 c).flushed 3 t = ((cfg0.win 3).blk t).view.read (Elt Ideal) (result m c) := by
  have hN : t.val < 37 := (chunkOf t).isLt
  rw [Value.flushed3, out_eq, View.canon_unit_zero hz, coords_eq t]
  funext y
  obtain ⟨r, l, rfl⟩ : ∃ (r : Fin 256) (l : Fin 512), y = ix2 r l := ⟨y 0, y 1, ValueIdx.eq_ix2 y⟩
  rw [View.read_apply]
  refine (block_apply m c t r l (⟨512 * t.val + l.val, by omega⟩ : Fin 18944) rfl).trans ?_
  show result m c _ = result m c _
  congr 1
  funext a
  apply Fin.ext
  match a with
  | ⟨0, _⟩ => show r.val = win0_3.index t 0 * 256 + 1 * r.val; rw [(index_out t).1]; omega
  | ⟨1, _⟩ => show 512 * t.val + l.val = win0_3.index t 1 * 512 + 1 * l.val; rw [(index_out t).2]; omega

/-- The point that stores column `j`. -/
abbrev pointOf (j : Fin 18944) : Fin cfg0.N := ⟨j.val / 512, by rw [show cfg0.N = 37 from N_0]; omega⟩

/-- So the result array ends holding the product. -/
theorem final : (dats m 0 c).arrAt 3 cfg0.N = result m c :=
  (dats m 0 c).arrAt_eq_of_cover 3 (result m c) (flushed_eq m c) fun i =>
    ⟨pointOf (i 1), flush0_3 (pointOf (i 1)), by
      show i ∈ ((View.whole main_v7).slice (win0_3.rect (pointOf (i 1)))).set
      rw [View.set_slice_whole, Rect.mem_set_unit]
      intro a
      have h0 : (i 0 : Nat) < 256 := (i 0).isLt
      have h1 : (i 1 : Nat) < 18944 := (i 1).isLt
      match a with
      | ⟨0, _⟩ =>
        show win0_3.index (pointOf (i 1)) 0 * 256 ≤ (i 0 : Nat) ∧ (i 0 : Nat) < win0_3.index (pointOf (i 1)) 0 * 256 + 256
        rw [(index_out (pointOf (i 1))).1]; omega
      | ⟨1, _⟩ =>
        show win0_3.index (pointOf (i 1)) 1 * 512 ≤ (i 1 : Nat) ∧ (i 1 : Nat) < win0_3.index (pointOf (i 1)) 1 * 512 + 512
        rw [(index_out (pointOf (i 1))).2]
        show (i 1 : Nat) / 512 * 512 ≤ (i 1 : Nat) ∧ (i 1 : Nat) < (i 1 : Nat) / 512 * 512 + 512
        omega⟩

/-- THE KERNEL'S RUN: the result array ends holding the product of the arguments, and the arguments are unchanged. -/
theorem run (ρ : Dev nD → PrngReg) : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.Proof.Kernel
-- ==== Proof.ReferenceValue.lean ====
/-
  THE REFERENCE'S RESULT at the extended reals is the product: its one block is the whole array, and the value stored there, read at
  an index, is the sum of `product`.
-/
module

public import proofs.«01_k».proof.Proof.Product
public import proofs.«01_k».proof.Proof.Gen.ReferenceIdeal.Value
public import Idealize.ShloMosaic.Lib.MatmulPlain
public import Idealize.ShloMosaic.Lib.StableHlo.Run

@[expose] public section

noncomputable section

namespace Cert.Proof.Reference

open Idealize.ShloMosaic
open Idealize.ShloMosaic.ValueIdx Idealize.ShloMosaic.TcCoe Idealize.SL.Sem Cert.ReferenceIdeal Cert.ReferenceIdeal.Gen

/-! ## The value of the stored block -/

/-- The stored block's element `[r, c]`: the sum over `k` of `x[r, k]` times the weight at `[k, c]`, which is the code at
    `[k, c / 512, c % 512]` times the scale of row `k` in chunk `c / 512`. -/
theorem stored_apply (x : Vec Ideal S256x3584 .bf16) (codes : Vec Ideal S3584x37x512 .i8) (s : Vec Ideal S3584x37 .bf16)
    (r : Fin 256) (c : Fin 18944) :
    k0_pay1 codes s x (ix2 r c) = ∑ k : Fin 3584, (x (ix2 r k) : EReal) *
      ((FloatOps.sitofp (F := Ideal) .bf16 (codes (ix3 k (chunk c) (⟨c.val % 512, by omega⟩ : Fin 512)) : BitVec 8) : EReal)
        * (s (ix2 k (chunk c)) : EReal)) := by
  unfold k0_pay1
  rw [truncf_apply]
  refine (Ideal.matmul_plain_apply (M := 256) (K := 3584) (N := 18944) none _ _ _ r c).trans ?_
  rw [show (constant S256x18944 .f32 0x00000000#32 : FVec Ideal S256x18944 .f32) (ix2 r c) = (0 : EReal) from Ideal.ofBits_zero_f32]
  rw [zero_add]
  refine Finset.sum_congr rfl fun k _ => ?_
  rw [shapeCast_self, shapeCast_self, shapeCast_self]
  rw [shapeCast_apply _ shapeCasts_S3584x37x512_S3584x18944 (ix2 k c) (ix3 k (chunk c) (⟨c.val % 512, by omega⟩ : Fin 512)) (by
    rw [Shape.rowMajor_val_three, Shape.rowMajor_val_two]
    show (k.val * 37 + c.val / 512) * 512 + c.val % 512 = k.val * 18944 + c.val
    omega)]
  rw [mulf_apply, sitofp_apply]
  rw [broadcastTo_apply _ broadcasts_S3584x37x1_S3584x37x512 _ (ix3 k (chunk c) (0 : Fin 1)) (fun a => match a with
    | ⟨0, _⟩ => rfl
    | ⟨1, _⟩ => rfl
    | ⟨2, _⟩ => rfl)]
  rw [shapeCast_apply _ shapeCasts_S3584x37_S3584x37x1 (ix3 k (chunk c) (0 : Fin 1)) (ix2 k (chunk c)) (by
    rw [Shape.rowMajor_val_three, Shape.rowMajor_val_two]
    show k.val * 37 + c.val / 512 = (k.val * 37 + c.val / 512) * 1 + 0
    omega)]

/-! ## The arrays the kernel finds -/

variable (m : (ℓ : Loc nD τ sig) → Buf (Elt Ideal) ℓ) (c : Dev nD)

/-- `x` as a matrix of 256 rows. -/
abbrev x : FVec Ideal S256x3584 .bf16 :=
  shapeCast S256x3584 (m ((c : Thread nD τ).loc main_arg0)) shapeCasts_S2x128x3584_S256x3584

/-- The scale of each row and chunk. -/
abbrev s : FVec Ideal S3584x37 .bf16 :=
  shapeCast S3584x37 (shapeCast S132608 (broadcastInDim S33152x4 ![0] bcast_S33152_S33152x4_0
    (truncf .bf16 (m ((c : Thread nD τ).loc main_arg2) : FVec Ideal S33152 .f32) bitsLt_bf16_f32)) shapeCasts_S33152x4_S132608) shapeCasts_S132608_S3584x37

/-- The codes by row and chunk. -/
abbrev codes : IVec S3584x37x512 8 :=
  shapeCast S3584x37x512 (m ((c : Thread nD τ).loc main_arg1)) shapeCasts_S67895296_S3584x37x512

/-- The kernel finds `x` reshaped to 256 rows. -/
theorem V_x : V m c main_v4 = x m c := by
  unfold V
  after_results
  rfl
/-- The kernel finds the codes reshaped, in the same flat order. -/
theorem V_codes : V m c main_v5 = codes m c := by
  unfold V
  after_results
  rfl
/-- The kernel finds the rounded scales, each repeated 4 times, by row and chunk. -/
theorem V_s : V m c main_v3 = s m c := by
  unfold V
  after_results
  rfl

/-- The codes by row and chunk, read at column `c` of row `k`: the flat code. -/
theorem codes_apply (k : Fin 3584) (j : Fin 18944) :
    codes m c (ix3 k (chunk j) (⟨j.val % 512, by omega⟩ : Fin 512)) = (m ((c : Thread nD τ).loc main_arg1) : IVec S67895296 8) (ix1 (flat k j)) :=
  shapeCast_apply _ shapeCasts_S67895296_S3584x37x512 _ _ (by
    rw [Shape.rowMajor_val_three, Shape.rowMajor_val_one]
    show 18944 * k.val + j.val = (k.val * 37 + j.val / 512) * 512 + j.val % 512
    omega)

/-! ## The result array -/

/-- Two zero offsets, written out, are the constant zero. -/
theorem hz : (![0, 0] : Fin 2 → Nat) = fun _ => 0 := funext fun a => by fin_cases a <;> rfl
/-- Three zero offsets, written out, are the constant zero. -/
theorem hz3 : (![0, 0, 0] : Fin 3 → Nat) = fun _ => 0 := funext fun a => by fin_cases a <;> rfl

/-- The result: the product of the arguments. -/
abbrev result : Buf (Elt Ideal) ((c : Thread nD τ).loc main_v6) := product (x m c) (m ((c : Thread nD τ).loc main_arg1)) (s m c)

/-- Every window's block is its whole array: `x`'s … -/
theorem iblk_x (t : Fin cfg0.N) : iblk m c 0 t = x m c := by
  refine Eq.trans ?_ (V_x m c)
  unfold iblk
  exact Memref.read_access_unit_zero (Elt Ideal) main_v4 (funext fun a => Nat.zero_mul _) (fun a => by simp) (V m c main_v4)
/-- … the codes' … -/
theorem iblk_codes (t : Fin cfg0.N) : iblk m c 1 t = codes m c := by
  refine Eq.trans ?_ (V_codes m c)
  unfold iblk
  exact Memref.read_access_unit_zero (Elt Ideal) main_v5 (funext fun a => Nat.zero_mul _) (fun a => by simp) (V m c main_v5)
/-- … and the scales'. -/
theorem iblk_s (t : Fin cfg0.N) : iblk m c 2 t = s m c := by
  refine Eq.trans ?_ (V_s m c)
  unfold iblk
  exact Memref.read_access_unit_zero (Elt Ideal) main_v3 (funext fun a => Nat.zero_mul _) (fun a => by simp) (V m c main_v3)

/-- The block the kernel leaves is the product. -/
theorem out_result (t : Fin cfg0.N) : out0_3 (iblk m c 0 t) (iblk m c 1 t) (iblk m c 2 t) = result m c := by
  rw [iblk_x, iblk_codes, iblk_s]
  unfold out0_3
  rw [View.canon_unit_zero hz, View.ld_unit_zero (S := S3584x37x512) hz3, View.ld_unit_zero (S := S3584x37) hz, View.ld_unit_zero (S := S256x3584) hz]
  funext i
  obtain ⟨r, j, rfl⟩ : ∃ (r : Fin 256) (j : Fin 18944), i = ix2 r j := ⟨i 0, i 1, eq_ix2 i⟩
  rw [stored_apply]
  refine Finset.sum_congr rfl fun k _ => ?_
  rw [codes_apply]
  rfl

/-- What the one point writes back is the product. -/
theorem flushed_eq (t : Fin cfg0.N) (hf : (cfg0.win 3).flush t = true) :
    (dats m 0 c).flushed 3 t = ((cfg0.win 3).blk t).view.read (Elt Ideal) (result m c) := by
  rw [Value.flushed3, out_result]
  exact (Memref.read_access_unit_zero (Elt Ideal) main_v6 (funext fun a => Nat.zero_mul _) (fun a => by simp) (result m c)).symm

/-- The launch's one point. -/
abbrev point : Fin cfg0.N := ⟨0, by rw [show cfg0.N = 1 from N_0]; decide⟩

/-- So the result array ends holding the product. -/
theorem final : (dats m 0 c).arrAt 3 cfg0.N = result m c :=
  (dats m 0 c).arrAt_eq_of_cover 3 (result m c) (flushed_eq m c) fun i =>
    ⟨point, flush0_3 point, by
      show i ∈ ((View.whole main_v6).slice (win0_3.rect point)).set
      rw [View.set_slice_whole, Rect.mem_set_unit]
      intro a
      have h0 : (i 0 : Nat) < 256 := (i 0).isLt
      have h1 : (i 1 : Nat) < 18944 := (i 1).isLt
      match a with
      | ⟨0, _⟩ => show 0 * 256 ≤ (i 0 : Nat) ∧ (i 0 : Nat) < 0 * 256 + 256; omega
      | ⟨1, _⟩ => show 0 * 18944 ≤ (i 1 : Nat) ∧ (i 1 : Nat) < 0 * 18944 + 18944; omega⟩

/-- THE REFERENCE'S RUN: the result array ends holding the product of the arguments, and the arguments are unchanged. -/
theorem run (ρ : Dev nD → PrngReg) : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.Proof.Reference
-- ==== Proof.lean ====
/-
  THE CLAIMS, assembled: the frames of the three programs are generated; the kernel's and the reference's runs at the extended reals
  (KernelValue.lean, ReferenceValue.lean) both end at the product of the arguments (Product.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelValue
public import proofs.«01_k».proof.Proof.ReferenceValue
public import Idealize.ShloMosaic.Adequacy
public import Idealize.ShloMosaic.Init

@[expose] public section

noncomputable section

namespace Cert.Proof

open Idealize.ShloMosaic Idealize.SL.Sem

/-- At the extended reals the kernel and the reference end with equal results from equal arguments: both end at the product. -/
theorem algebraic : Cert.algebraic_KernelIdeal_ReferenceIdeal (hKernelIdeal := Cert.KernelIdeal.Gen.facts)
    (hReferenceIdeal := Cert.ReferenceIdeal.Gen.facts) := fun m g m' g' _ hargs => by
  refine ⟨Kernel.result m, Kernel.run m g, ?_⟩
  refine (θ_run Cert.ReferenceIdeal.defs _ _).mono (fun _ h c => ⟨(h c).1.trans ?_, (h c).2⟩) (Reference.run m' g')
  obtain ⟨h0, h1, h2⟩ := hargs c
  unfold Reference.result Reference.x Reference.s
  rw [h0, h1, h2]

/-- The certificate's claims: the three frames, the idealization, and the equality of results at the extended reals. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ,
  trivial, algebraic⟩

end Cert.Proof

end
